-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S200x128x128 : Shape := ⟨3, ![200, 128, 128]⟩
abbrev S128x128 : Shape := ⟨2, ![128, 128]⟩
abbrev S128 : Shape := ⟨1, ![128]⟩
abbrev S64x128 : Shape := ⟨2, ![64, 128]⟩
abbrev S64 : Shape := ⟨1, ![64]⟩
abbrev S200x128x64 : Shape := ⟨3, ![200, 128, 64]⟩
abbrev S40x128x128 : Shape := ⟨3, ![40, 128, 128]⟩
abbrev S40x128x64 : Shape := ⟨3, ![40, 128, 64]⟩
abbrev S128x64 : Shape := ⟨2, ![128, 64]⟩
abbrev S1x128 : Shape := ⟨2, ![1, 128]⟩
abbrev S1x64 : Shape := ⟨2, ![1, 64]⟩
abbrev S5120x128 : Shape := ⟨2, ![5120, 128]⟩
abbrev S1x64x128 : Shape := ⟨3, ![1, 64, 128]⟩
abbrev S5120x64 : Shape := ⟨2, ![5120, 64]⟩

abbrev nBuf : Space → Nat
  | .hbm => 9
  | .vmem => 13
  | .smem => 0
  | _ => 0

abbrev bufTy : (tb : Table) → Fin (tcTables nBuf tb) → BufTy
  | .hbm, ⟨0, _⟩ => ⟨S200x128x128, .f32⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S64x128, .f32⟩
  | .hbm, ⟨7, _⟩ => ⟨S64, .f32⟩
  | .hbm, ⟨8, _⟩ => ⟨S200x128x64, .f32⟩
  | .local _ .vmem, ⟨0, _⟩ => ⟨S40x128x128, .f32⟩
  | .local _ .vmem, ⟨1, _⟩ => ⟨S40x128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128, .f32⟩
  | .local _ .vmem, ⟨6, _⟩ => ⟨S128, .f32⟩
  | .local _ .vmem, ⟨7, _⟩ => ⟨S64x128, .f32⟩
  | .local _ .vmem, ⟨8, _⟩ => ⟨S64, .f32⟩
  | .local _ .vmem, ⟨9, _⟩ => ⟨S40x128x64, .f32⟩
  | .local _ .vmem, ⟨10, _⟩ => ⟨S40x128x64, .f32⟩
  | .local _ .vmem, ⟨11, _⟩ => ⟨S128x128, .f32⟩
  | .local _ .vmem, ⟨12, _⟩ => ⟨S40x128x128, .f32⟩
  | _, _ => ⟨S200x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![5], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S40x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S40x128x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S200x128x128 : Shape := ⟨3, ![200, 128, 128]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩
abbrev S200x128x64 : Shape := ⟨3, ![200, 128, 64]⟩
abbrev S1x128x128 : Shape := ⟨3, ![1, 128, 128]⟩
abbrev S1x128 : Shape := ⟨2, ![1, 128]⟩
abbrev S128x64 : Shape := ⟨2, ![128, 64]⟩
abbrev S1x64 : Shape := ⟨2, ![1, 64]⟩
abbrev S1x128x64 : Shape := ⟨3, ![1, 128, 64]⟩

abbrev nBuf : Space → Nat
  | .hbm => 50
  | .vmem => 0
  | .smem => 0
  | _ => 0

abbrev bufTy : (tb : Table) → Fin (tcTables nBuf tb) → BufTy
  | .hbm, ⟨0, _⟩ => ⟨S200x128x128, .f32⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S64x128, .f32⟩
  | .hbm, ⟨7, _⟩ => ⟨S64, .f32⟩
  | .hbm, ⟨8, _⟩ => ⟨S_, .f32⟩
  | .hbm, ⟨9, _⟩ => ⟨S200x128x64, .f32⟩
  | .hbm, ⟨10, _⟩ => ⟨S_, .i32⟩
  | .hbm, ⟨11, _⟩ => ⟨S200x128x128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S64x128, .f32⟩
  | .hbm, ⟨17, _⟩ => ⟨S64, .f32⟩
  | .hbm, ⟨18, _⟩ => ⟨S_, .i32⟩
  | .hbm, ⟨19, _⟩ => ⟨S128x128, .f32⟩
  | .hbm, ⟨20, _⟩ => ⟨S200x128x64, .f32⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S1x128x128, .f32⟩
  | .hbm, ⟨26, _⟩ => ⟨S128x128, .f32⟩
  | .hbm, ⟨27, _⟩ => ⟨S128x128, .f32⟩
  | .hbm, ⟨28, _⟩ => ⟨S128x128, .f32⟩
  | .hbm, ⟨29, _⟩ => ⟨S1x128, .f32⟩
  | .hbm, ⟨30, _⟩ => ⟨S128x128, .f32⟩
  | .hbm, ⟨31, _⟩ => ⟨S128x128, .f32⟩
  | .hbm, ⟨32, _⟩ => ⟨S128x128, .f32⟩
  | .hbm, ⟨33, _⟩ => ⟨S128x128, .f32⟩
  | .hbm, ⟨34, _⟩ => ⟨S128x128, .f32⟩
  | .hbm, ⟨35, _⟩ => ⟨S1x128, .f32⟩
  | .hbm, ⟨36, _⟩ => ⟨S128x128, .f32⟩
  | .hbm, ⟨37, _⟩ => ⟨S128x128, .f32⟩
  | .hbm, ⟨38, _⟩ => ⟨S128x128, .f32⟩
  | .hbm, ⟨39, _⟩ => ⟨S128x64, .f32⟩
  | .hbm, ⟨40, _⟩ => ⟨S128x64, .f32⟩
  | .hbm, ⟨41, _⟩ => ⟨S1x64, .f32⟩
  | .hbm, ⟨42, _⟩ => ⟨S128x64, .f32⟩
  | .hbm, ⟨43, _⟩ => ⟨S128x64, .f32⟩
  | .hbm, ⟨44, _⟩ => ⟨S1x128x64, .f32⟩
  | .hbm, ⟨45, _⟩ => ⟨S_, .i32⟩
  | .hbm, ⟨46, _⟩ => ⟨S_, .i32⟩
  | .hbm, ⟨47, _⟩ => ⟨S200x128x64, .f32⟩
  | .hbm, ⟨48, _⟩ => ⟨S_, .i32⟩
  | .hbm, ⟨49, _⟩ => ⟨S_, .i32⟩
  | _, _ => ⟨S200x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_c : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev main_v1_4 : Ref sig .tc := ⟨.hbm, 15, rfl⟩
abbrev main_v1_5 : Ref sig .tc := ⟨.hbm, 16, rfl⟩
abbrev main_v1_6 : Ref sig .tc := ⟨.hbm, 17, rfl⟩
abbrev main_v1_7 : Ref sig .tc := ⟨.hbm, 18, rfl⟩
abbrev main_v1_8 : Ref sig .tc := ⟨.hbm, 19, rfl⟩
abbrev main_v1_9 : Ref sig .tc := ⟨.hbm, 20, rfl⟩
abbrev main_while0c_c_9 : Ref sig .tc := ⟨.hbm, 21, rfl⟩
abbrev main_while0c_v2 : Ref sig .tc := ⟨.hbm, 22, rfl⟩
abbrev main_while0b_call0_c : Ref sig .tc := ⟨.hbm, 23, rfl⟩
abbrev main_while0b_call0_c_0 : Ref sig .tc := ⟨.hbm, 24, rfl⟩
abbrev main_while0b_call0_v0 : Ref sig .tc := ⟨.hbm, 25, rfl⟩
abbrev main_while0b_v2 : Ref sig .tc := ⟨.hbm, 26, rfl⟩
abbrev main_while0b_v3 : Ref sig .tc := ⟨.hbm, 27, rfl⟩
abbrev main_while0b_v4 : Ref sig .tc := ⟨.hbm, 28, rfl⟩
abbrev main_while0b_v5 : Ref sig .tc := ⟨.hbm, 29, rfl⟩
abbrev main_while0b_v6 : Ref sig .tc := ⟨.hbm, 30, rfl⟩
abbrev main_while0b_v7 : Ref sig .tc := ⟨.hbm, 31, rfl⟩
abbrev main_while0b_v8 : Ref sig .tc := ⟨.hbm, 32, rfl⟩
abbrev main_while0b_v9 : Ref sig .tc := ⟨.hbm, 33, rfl⟩
abbrev main_while0b_v10 : Ref sig .tc := ⟨.hbm, 34, rfl⟩
abbrev main_while0b_v11 : Ref sig .tc := ⟨.hbm, 35, rfl⟩
abbrev main_while0b_v12 : Ref sig .tc := ⟨.hbm, 36, rfl⟩
abbrev main_while0b_v13 : Ref sig .tc := ⟨.hbm, 37, rfl⟩
abbrev main_while0b_v14 : Ref sig .tc := ⟨.hbm, 38, rfl⟩
abbrev main_while0b_v15 : Ref sig .tc := ⟨.hbm, 39, rfl⟩
abbrev main_while0b_v16 : Ref sig .tc := ⟨.hbm, 40, rfl⟩
abbrev main_while0b_v17 : Ref sig .tc := ⟨.hbm, 41, rfl⟩
abbrev main_while0b_v18 : Ref sig .tc := ⟨.hbm, 42, rfl⟩
abbrev main_while0b_v19 : Ref sig .tc := ⟨.hbm, 43, rfl⟩
abbrev main_while0b_call1_v0 : Ref sig .tc := ⟨.hbm, 44, rfl⟩
abbrev main_while0b_call1_c : Ref sig .tc := ⟨.hbm, 45, rfl⟩
abbrev main_while0b_call1_c_0 : Ref sig .tc := ⟨.hbm, 46, rfl⟩
abbrev main_while0b_v20 : Ref sig .tc := ⟨.hbm, 47, rfl⟩
abbrev main_while0b_c_9 : Ref sig .tc := ⟨.hbm, 48, rfl⟩
abbrev main_while0b_v21 : Ref sig .tc := ⟨.hbm, 49, rfl⟩

abbrev nD : Nat := 1
abbrev τ : Topo := Topo.v7x

variable {F : FTy → Type} [FloatOps F]

abbrev main_while0_count : Scf.Loop 32 := ⟨0#32, 200#32, 1#32⟩
-- ==== Proof.Sweep.lean ====
/- One block of the kernel as mathematics. A block has 40 time steps and the batch is worked in two halves of 64 rows. This module
   says what one half step is, what a half's state is after `t` of them, and that writing every state over the row of projected
   inputs it was computed from leaves the block's history of states. -/
module

public import proofs.«01_k».proof.Proof.Gen.KernelIdeal.Value
import Idealize.ShloMosaic.Lib.Pipeline.ValueKit
import Idealize.ShloMosaic.Lib.Pipeline.ReadBack
public import Idealize.ShloMosaic.Lib.ValueIdxCore

@[expose] public section

noncomputable section

namespace Cert.Rnn

open Cert.KernelIdeal Cert.KernelIdeal.Gen Idealize.ShloMosaic.ValueIdx
open Idealize.ShloMosaic hiding ix1 ix2 ix3 ix4

variable {F : FTy → Type} [FloatOps F]

/-- One time step of one half of the batch: `tanh (p + x · W)`, where `p` is the half's row of projected inputs. -/
def half (W : FVec F S128x128 .f32) (x : FVec F S64x128 .f32) (p : FVec F S1x64x128 .f32) : FVec F S64x128 .f32 :=
  tanh (addf (shapeCast S64x128 p shapeCasts_S1x64x128_S64x128)
    (matmul dot_S64x128_S128x128_S64x128_1_0_0_1_n_n none x W (constant S64x128 .f32 0x00000000#32)))

/-- The rows `h … h + 63` of time step `t` of a block (the last step of the block if `t` is past it). -/
def row (U : FVec F S40x128x128 .f32) (h t : ℕ) : FVec F S1x64x128 .f32 := fun i =>
  U (ix3 ⟨min t 39, by omega⟩ ⟨min (h + (i 1).val) 127, by omega⟩ (i 2))

/-- A half's state after `t` steps from `x`, its rows starting at `h`. -/
def roll (W : FVec F S128x128 .f32) (U : FVec F S40x128x128 .f32) (h : ℕ) (x : FVec F S64x128 .f32) : ℕ → FVec F S64x128 .f32
  | 0 => x
  | t + 1 => half W (roll W U h x t) (row U h t)

/-- Two halves of 64 rows as one batch of 128 rows. -/
def stack (a b : FVec F S64x128 .f32) : FVec F S128x128 .f32 := fun i =>
  if h : (i 0).val < 64 then a (ix2 ⟨(i 0).val, h⟩ (i 1)) else b (ix2 ⟨(i 0).val - 64, by have := (i 0).isLt; change _ < 128 at this; omega⟩ (i 1))

/-- The block's history: at time `t` the batch's state after `t + 1` steps. -/
def hist (W : FVec F S128x128 .f32) (U : FVec F S40x128x128 .f32) (a b : FVec F S64x128 .f32) : FVec F S40x128x128 .f32 := fun y =>
  stack (roll W U 0 a ((y 0).val + 1)) (roll W U 64 b ((y 0).val + 1)) (ix2 (y 1) (y 2))

/-- Reading rows `h … h + 63` of step `t` off a block. -/
theorem ld_row (U : FVec F S40x128x128 .f32) (t h : ℕ) (inb : ∀ a, (![t, h, 0] : Fin 3 → ℕ) a + S1x64x128.size a ≤ S40x128x128.size a) :
    View.ld (Val := Elt F) (e' := .f32) U (Rect.unit (s := S40x128x128) ![t, h, 0] (no_index S1x64x128.size) inb) = row U h t := by
  funext x
  have h0 : t + 1 ≤ 40 := inb 0
  have h1 : h + 64 ≤ 128 := inb 1
  have x0 : (x 0).val < 1 := (x 0).isLt
  have x1 : (x 1).val < 64 := (x 1).isLt
  refine View.ld_unit_apply_of (Val := Elt F) (e := .f32) U _ _ inb x _ fun a => ?_
  match a with
  | ⟨0, _⟩ => show min t 39 = t + (x 0).val; omega
  | ⟨1, _⟩ => show min (h + (x 1).val) 127 = h + (x 1).val; omega
  | ⟨2, _⟩ => show (x 2).val = 0 + (x 2).val; omega

/-- The stores `L` have left the block's history at the time steps before `n`. -/
def History (W : FVec F S128x128 .f32) (U : FVec F S40x128x128 .f32) (a b : FVec F S64x128 .f32) (n : ℕ)
    (L : List (View.Piece (Elt F) S40x128x128 .f32)) : Prop :=
  ∀ y : S40x128x128.Idx, (y 0).val < n → View.canon L y = hist W U a b y

theorem history_zero (W : FVec F S128x128 .f32) (U : FVec F S40x128x128 .f32) (a b : FVec F S64x128 .f32)
    (L : List (View.Piece (Elt F) S40x128x128 .f32)) : History W U a b 0 L := fun _ h => absurd h (Nat.not_lt_zero _)

/-- A half state stored with a leading axis of one, at an index. -/
theorem cast_half (v : FVec F S64x128 .f32) (x : S1x64x128.Idx) :
    shapeCast S1x64x128 v shapeCasts_S64x128_S1x64x128 x = v (ix2 (x 1) (x 2)) := by
  refine (shapeCast_addUnit_apply ![64, 128] v shapeCasts_S64x128_S1x64x128 x).trans (congrArg v (funext fun k => ?_))
  match k with
  | ⟨0, _⟩ => rfl
  | ⟨1, _⟩ => rfl

/-- One more time step: both halves' new states are stored at step `n`. -/
theorem history_succ {W : FVec F S128x128 .f32} {U : FVec F S40x128x128 .f32} {a b : FVec F S64x128 .f32} {n : ℕ}
    {L : List (View.Piece (Elt F) S40x128x128 .f32)} {p q : FVec F S1x64x128 .f32}
    (inp : ∀ a, (![n, 0, 0] : Fin 3 → ℕ) a + S1x64x128.size a ≤ S40x128x128.size a)
    (inq : ∀ a, (![n, 64, 0] : Fin 3 → ℕ) a + S1x64x128.size a ≤ S40x128x128.size a)
    (hp : p = shapeCast S1x64x128 (roll W U 0 a (n + 1)) shapeCasts_S64x128_S1x64x128)
    (hq : q = shapeCast S1x64x128 (roll W U 64 b (n + 1)) shapeCasts_S64x128_S1x64x128)
    (hL : History W U a b n L) :
    History W U a b (n + 1) (⟨Rect.unit ![n, 64, 0] S1x64x128.size inq, q⟩ :: ⟨Rect.unit ![n, 0, 0] S1x64x128.size inp, p⟩ :: L) := by
  subst hp hq
  intro y hy
  have y1 : (y 1).val < 128 := (y 1).isLt
  have y2 : (y 2).val < 128 := (y 2).isLt
  have key : ∀ (h : ℕ) (inb : ∀ a, (![n, h, 0] : Fin 3 → ℕ) a + S1x64x128.size a ≤ S40x128x128.size a),
      y ∈ (Rect.unit (s := S40x128x128) ![n, h, 0] S1x64x128.size inb).set ↔ (y 0).val = n ∧ h ≤ (y 1).val ∧ (y 1).val < h + 64 := by
    intro h inb
    rw [Rect.mem_set_unit]
    constructor
    · intro H
      have H0 : n ≤ (y 0).val ∧ (y 0).val < n + 1 := H 0
      have H1 : h ≤ (y 1).val ∧ (y 1).val < h + 64 := H 1
      omega
    · rintro ⟨H0, H1⟩ k
      match k with
      | ⟨0, _⟩ => show n ≤ (y 0).val ∧ (y 0).val < n + 1; omega
      | ⟨1, _⟩ => exact H1
      | ⟨2, _⟩ => show 0 ≤ (y 2).val ∧ (y 2).val < 0 + 128; omega
  have hit : ∀ (h : ℕ) (inb : ∀ a, (![n, h, 0] : Fin 3 → ℕ) a + S1x64x128.size a ≤ S40x128x128.size a) (v : FVec F S64x128 .f32)
      (L : List (View.Piece (Elt F) S40x128x128 .f32)) (_ : (y 0).val = n) (h1 : h ≤ (y 1).val) (h2 : (y 1).val < h + 64),
      View.canon (⟨Rect.unit (s := S40x128x128) ![n, h, 0] S1x64x128.size inb, shapeCast S1x64x128 v shapeCasts_S64x128_S1x64x128⟩ :: L) y
        = v (ix2 ⟨(y 1).val - h, by omega⟩ (y 2)) := by
    intro h inb v L h0 h1 h2
    have e : y = (Rect.unit (s := S40x128x128) ![n, h, 0] S1x64x128.size inb).emb (ix3 (0 : Fin 1) ⟨(y 1).val - h, by omega⟩ (y 2)) := by
      funext k; apply Fin.ext
      match k with
      | ⟨0, _⟩ => show (y 0).val = n + 1 * 0; omega
      | ⟨1, _⟩ => show (y 1).val = h + 1 * ((y 1).val - h); omega
      | ⟨2, _⟩ => show (y 2).val = 0 + 1 * (y 2).val; omega
    have := View.canon_cons_emb (Val := Elt F) (e := .f32) (Rect.unit (s := S40x128x128) ![n, h, 0] S1x64x128.size inb)
      (shapeCast S1x64x128 v shapeCasts_S64x128_S1x64x128) L (ix3 (0 : Fin 1) ⟨(y 1).val - h, by omega⟩ (y 2))
    rw [← e] at this
    rw [this, cast_half]
  by_cases h0 : (y 0).val = n
  · by_cases h1 : (y 1).val < 64
    · rw [View.canon_cons_of_not_mem _ _ (by rw [key]; omega), hit 0 inp _ L h0 (by omega) (by omega)]
      simp only [hist, stack, h0]
      rw [dif_pos (show ((y 1).val) < 64 from h1)]
      rfl
    · rw [hit 64 inq _ _ h0 (by omega) (by omega)]
      simp only [hist, stack, h0]
      rw [dif_neg (show ¬ ((y 1).val) < 64 from h1)]
  · rw [View.canon_cons_of_not_mem _ _ (by rw [key]; omega), View.canon_cons_of_not_mem _ _ (by rw [key]; omega)]
    exact hL y (by omega)

/-- After all 40 steps the stores have left the whole history. -/
theorem History.canon_eq {W : FVec F S128x128 .f32} {U : FVec F S40x128x128 .f32} {a b : FVec F S64x128 .f32}
    {L : List (View.Piece (Elt F) S40x128x128 .f32)} (h : History W U a b 40 L) : View.canon L = hist W U a b :=
  funext fun y => h y (y 0).isLt

/-- Reading the whole block back after the stores `L` reads what they have left. -/
theorem readCov_block {κ : Kind} {sp : Space} (v : View sig κ sp S40x128x128 .f32) (L : List (View.Piece (Elt F) S40x128x128 .f32))
    (inb : ∀ k, (![0, 0, 0] : Fin 3 → ℕ) k + S40x128x128.size k ≤ S40x128x128.size k) :
    v.readCov L (Rect.unit (s := S40x128x128) ![0, 0, 0] S40x128x128.size inb).toLoadRect = View.canon L :=
  (View.readCov_eq_canon' v L _).trans (View.ld_unit_lit (e := .f32) inb (View.canon L) (by decide))

/-- The two halves of a batch stored one over the other leave the stacked batch. -/
theorem canon_stack (a b : FVec F S64x128 .f32) (L : List (View.Piece (Elt F) S128x128 .f32))
    (ina : ∀ k, (![0, 0] : Fin 2 → ℕ) k + S64x128.size k ≤ S128x128.size k)
    (inb : ∀ k, (![64, 0] : Fin 2 → ℕ) k + S64x128.size k ≤ S128x128.size k) :
    View.canon (⟨Rect.unit (s := S128x128) ![64, 0] S64x128.size inb, b⟩ :: ⟨Rect.unit ![0, 0] S64x128.size ina, a⟩ :: L) = stack a b := by
  funext y
  have y0 : (y 0).val < 128 := (y 0).isLt
  have y1 : (y 1).val < 128 := (y 1).isLt
  have key : ∀ (h : ℕ) (inb : ∀ k, (![h, 0] : Fin 2 → ℕ) k + S64x128.size k ≤ S128x128.size k),
      y ∈ (Rect.unit (s := S128x128) ![h, 0] S64x128.size inb).set ↔ h ≤ (y 0).val ∧ (y 0).val < h + 64 := by
    intro h inb
    rw [Rect.mem_set_unit]
    refine ⟨fun H => H 0, fun H k => ?_⟩
    match k with
    | ⟨0, _⟩ => exact H
    | ⟨1, _⟩ => show 0 ≤ (y 1).val ∧ (y 1).val < 0 + 128; omega
  have hit : ∀ (h : ℕ) (inb : ∀ k, (![h, 0] : Fin 2 → ℕ) k + S64x128.size k ≤ S128x128.size k) (v : FVec F S64x128 .f32)
      (L : List (View.Piece (Elt F) S128x128 .f32)) (h1 : h ≤ (y 0).val) (h2 : (y 0).val < h + 64),
      View.canon (⟨Rect.unit (s := S128x128) ![h, 0] S64x128.size inb, v⟩ :: L) y = v (ix2 ⟨(y 0).val - h, by omega⟩ (y 1)) := by
    intro h inb v L h1 h2
    have e : y = (Rect.unit (s := S128x128) ![h, 0] S64x128.size inb).emb (ix2 ⟨(y 0).val - h, by omega⟩ (y 1)) := by
      funext k; apply Fin.ext
      match k with
      | ⟨0, _⟩ => show (y 0).val = h + 1 * ((y 0).val - h); omega
      | ⟨1, _⟩ => show (y 1).val = 0 + 1 * (y 1).val; omega
    have := View.canon_cons_emb (Val := Elt F) (e := .f32) (Rect.unit (s := S128x128) ![h, 0] S64x128.size inb) v L
      (ix2 ⟨(y 0).val - h, by omega⟩ (y 1))
    rw [← e] at this
    exact this
  by_cases h1 : (y 0).val < 64
  · rw [View.canon_cons_of_not_mem _ _ (by rw [key]; omega), hit 0 ina _ L (by omega) (by omega), stack, dif_pos h1]
    rfl
  · rw [hit 64 inb _ _ (by omega) (by omega), stack, dif_neg h1]

/-- The top and the bottom half of a batch. -/
def top (x : FVec F S128x128 .f32) : FVec F S64x128 .f32 := fun i => x (ix2 ⟨(i 0).val, by have := (i 0).isLt; change _ < 64 at this; omega⟩ (i 1))
def bot (x : FVec F S128x128 .f32) : FVec F S64x128 .f32 := fun i => x (ix2 ⟨64 + (i 0).val, by have := (i 0).isLt; change _ < 64 at this; omega⟩ (i 1))

theorem ld_top (x : FVec F S128x128 .f32) (inb : ∀ k, (![0, 0] : Fin 2 → ℕ) k + S64x128.size k ≤ S128x128.size k) :
    View.ld (Val := Elt F) (e' := .f32) x (Rect.unit (s := S128x128) ![0, 0] (no_index S64x128.size) inb) = top x := by
  funext i
  refine View.ld_unit_apply_of (Val := Elt F) (e := .f32) x _ _ inb i _ fun k => ?_
  match k with
  | ⟨0, _⟩ => show (i 0).val = 0 + (i 0).val; omega
  | ⟨1, _⟩ => show (i 1).val = 0 + (i 1).val; omega

theorem ld_bot (x : FVec F S128x128 .f32) (inb : ∀ k, (![64, 0] : Fin 2 → ℕ) k + S64x128.size k ≤ S128x128.size k) :
    View.ld (Val := Elt F) (e' := .f32) x (Rect.unit (s := S128x128) ![64, 0] (no_index S64x128.size) inb) = bot x := by
  funext i
  refine View.ld_unit_apply_of (Val := Elt F) (e := .f32) x _ _ inb i _ fun k => ?_
  match k with
  | ⟨0, _⟩ => show 64 + (i 0).val = 64 + (i 0).val; omega
  | ⟨1, _⟩ => show (i 1).val = 0 + (i 1).val; omega

end Cert.Rnn

end
-- ==== Proof.Block.lean ====
/- What one grid point leaves: the batch's state after the block's 40 steps in the carried scratch, and in the output block the readout
   of every state of the block. Both are stated from the state the point starts from: the initial state at the first point (case A),
   what the point before left at the later ones (case B). -/
module

public import proofs.«01_k».proof.Proof.Sweep
import Idealize.ShloMosaic.Lib.Pipeline.ValueKit
import Idealize.ShloMosaic.Lib.Pipeline.ReadBack

@[expose] public section

set_option maxRecDepth 16384

noncomputable section

namespace Cert.Rnn

open Cert.KernelIdeal Cert.KernelIdeal.Gen Idealize.ShloMosaic.ValueIdx
open Idealize.ShloMosaic hiding ix1 ix2 ix3 ix4

variable {F : FTy → Type} [FloatOps F]

/-- The printed half step is `half`. -/
theorem fold_half (W : FVec F S128x128 .f32) (x : FVec F S64x128 .f32) (p : FVec F S1x64x128 .f32) :
    tanh (addf (shapeCast S64x128 p shapeCasts_S1x64x128_S64x128)
      (matmul dot_S64x128_S128x128_S64x128_1_0_0_1_n_n none x W (constant S64x128 .f32 0x00000000#32))) = half W x p := rfl

/-- The state a block of steps leaves, from the state `x`. -/
def leave (u : FVec F S40x128x128 .f32) (wih whh : FVec F S128x128 .f32) (bih bhh : FVec F S128 .f32) (x : FVec F S128x128 .f32) :
    FVec F S128x128 .f32 :=
  stack (roll (k0_pay2 whh) (k0_pay5 wih bih bhh u) 0 (top x) 40) (roll (k0_pay2 whh) (k0_pay5 wih bih bhh u) 64 (bot x) 40)

/-- The output block of a block of steps, from the state `x`: the readout of its history of states. -/
def emit (u : FVec F S40x128x128 .f32) (wih whh : FVec F S128x128 .f32) (bih bhh : FVec F S128 .f32) (wf : FVec F S64x128 .f32)
    (bf : FVec F S64 .f32) (x : FVec F S128x128 .f32) : FVec F S40x128x64 .f32 :=
  k0_pay173 (k0_pay3 wf) (k0_pay4 bf) (hist (k0_pay2 whh) (k0_pay5 wih bih bhh u) (top x) (bot x))

/-- The first point leaves, in the carried scratch, the state after its 40 steps from the initial state. -/
theorem sout_A (c : Dev nD) (t : Fin cfg0.N) (hc) (x0 : FVec F S40x128x128 .f32) (x1 x2 x3 x4 x5 x6 x7) :
    sout0_A_0 (F := F) c (grid0.coords t) (ms0_0 t) (hs0_0 t) (ms0_1 t) (hs0_1 t) (ms0_2 t) (hs0_2 t) (ms0_3 t) (hs0_3 t) (ms0_4 t)
      (hs0_4 t) (ms0_5 t) (hs0_5 t) (ms0_6 t) (hs0_6 t) (ms0_7 t) (hs0_7 t) (ms0_8 t) (hs0_8 t) scM0_0 (Memref.isWhole_whole _) scM0_1
      (Memref.isWhole_whole _) hc x0 x1 x2 x3 x4 x5 x6 x7 = leave x0 x2 x3 x4 x5 x1 := by
  frame_open
  simp (disch := decide) only [↓ View.readCov_skip, ↓ View.readCov_cons_toLoadRect, ↓ View.readCov_fill]
  frame_out
  refine (canon_stack _ _ _ _ _).trans ?_
  unfold leave
  generalize k0_pay5 x2 x4 x5 x0 = U
  unfold_payloads
  simp only [fold_half, shapeCast_self, read_unread_whole, ld_row, ld_top, ld_bot]
  rfl

/-- A later point leaves, in the carried scratch, the state after its 40 steps from the state the point before left. -/
theorem sout_B (c : Dev nD) (t : Fin cfg0.N) (hc) (x0 : FVec F S40x128x128 .f32) (x1 x2 x3 x4 x5 x6 x7 xs) :
    sout0_B_0 (F := F) c (grid0.coords t) (ms0_0 t) (hs0_0 t) (ms0_1 t) (hs0_1 t) (ms0_2 t) (hs0_2 t) (ms0_3 t) (hs0_3 t) (ms0_4 t)
      (hs0_4 t) (ms0_5 t) (hs0_5 t) (ms0_6 t) (hs0_6 t) (ms0_7 t) (hs0_7 t) (ms0_8 t) (hs0_8 t) scM0_0 (Memref.isWhole_whole _) scM0_1
      (Memref.isWhole_whole _) hc x0 x1 x2 x3 x4 x5 x6 x7 xs = leave x0 x2 x3 x4 x5 xs := by
  frame_open
  simp (disch := decide) only [↓ View.readCov_skip, ↓ View.readCov_cons_toLoadRect, ↓ View.readCov_fill]
  frame_out
  refine (canon_stack _ _ _ _ _).trans ?_
  unfold leave
  generalize k0_pay5 x2 x4 x5 x0 = U
  unfold_payloads
  simp only [fold_half, shapeCast_self, read_unread_whole, ld_row, ld_top, ld_bot]
  rfl

/-- The first point leaves, in the output block, the readout of its 40 states from the initial state. -/
theorem out_A (c : Dev nD) (t : Fin cfg0.N) (hc) (x0 : FVec F S40x128x128 .f32) (x1 x2 x3 x4 x5 x6 x7) :
    out0_A_8 (F := F) c (grid0.coords t) (ms0_0 t) (hs0_0 t) (ms0_1 t) (hs0_1 t) (ms0_2 t) (hs0_2 t) (ms0_3 t) (hs0_3 t) (ms0_4 t)
      (hs0_4 t) (ms0_5 t) (hs0_5 t) (ms0_6 t) (hs0_6 t) (ms0_7 t) (hs0_7 t) (ms0_8 t) (hs0_8 t) scM0_0 (Memref.isWhole_whole _) scM0_1
      (Memref.isWhole_whole _) hc x0 x1 x2 x3 x4 x5 x6 x7 = emit x0 x2 x3 x4 x5 x6 x7 x1 := by
  frame_open
  simp (disch := decide) only [↓ View.readCov_skip, ↓ View.readCov_cons_toLoadRect, ↓ View.readCov_fill]
  frame_out
  unfold emit
  refine congrArg (k0_pay173 (k0_pay3 x6) (k0_pay4 x7)) ?_
  refine (readCov_block _ _ _).trans (History.canon_eq (W := k0_pay2 x3) (U := k0_pay5 x2 x4 x5 x0) (a := top x1) (b := bot x1) ?_)
  generalize k0_pay5 x2 x4 x5 x0 = U
  unfold_payloads
  simp only [fold_half, shapeCast_self, read_unread_whole, ld_row, ld_top, ld_bot]
  repeat' first | exact history_zero _ _ _ _ _ | refine history_succ _ _ rfl rfl ?_

/-- A later point leaves, in the output block, the readout of its 40 states from the state the point before left. -/
theorem out_B (c : Dev nD) (t : Fin cfg0.N) (hc) (x0 : FVec F S40x128x128 .f32) (x1 x2 x3 x4 x5 x6 x7 xs) :
    out0_B_8 (F := F) c (grid0.coords t) (ms0_0 t) (hs0_0 t) (ms0_1 t) (hs0_1 t) (ms0_2 t) (hs0_2 t) (ms0_3 t) (hs0_3 t) (ms0_4 t)
      (hs0_4 t) (ms0_5 t) (hs0_5 t) (ms0_6 t) (hs0_6 t) (ms0_7 t) (hs0_7 t) (ms0_8 t) (hs0_8 t) scM0_0 (Memref.isWhole_whole _) scM0_1
      (Memref.isWhole_whole _) hc x0 x1 x2 x3 x4 x5 x6 x7 xs = emit x0 x2 x3 x4 x5 x6 x7 xs := by
  frame_open
  simp (disch := decide) only [↓ View.readCov_skip, ↓ View.readCov_cons_toLoadRect, ↓ View.readCov_fill]
  frame_out
  unfold emit
  refine congrArg (k0_pay173 (k0_pay3 x6) (k0_pay4 x7)) ?_
  refine (readCov_block _ _ _).trans (History.canon_eq (W := k0_pay2 x3) (U := k0_pay5 x2 x4 x5 x0) (a := top xs) (b := bot xs) ?_)
  generalize k0_pay5 x2 x4 x5 x0 = U
  unfold_payloads
  simp only [fold_half, shapeCast_self, read_unread_whole, ld_row, ld_top, ld_bot]
  repeat' first | exact history_zero _ _ _ _ _ | refine history_succ _ _ rfl rfl ?_

end Cert.Rnn

end
-- ==== Proof.Cells.lean ====
/- The kernel's vectors read at an index, over the extended reals: one half step, the projected inputs, the readout. -/
module

public import proofs.«01_k».proof.Proof.Block
public import Idealize.ShloMosaic.Lib.MatmulPlain
import Idealize.ShloMosaic.Lib.Pipeline.Value

@[expose] public section

noncomputable section

namespace Cert.Rnn

open Cert.KernelIdeal Cert.KernelIdeal.Gen Idealize.ShloMosaic.ValueIdx
open Idealize.ShloMosaic

/-- Row `r` of step `t` in the flattened block of 40 × 128 rows. -/
abbrev flat (t : Fin 40) (r : Fin 128) : Fin 5120 := ⟨128 * t.val + r.val, by omega⟩

/-- A transposed square matrix at an index. -/
theorem pay2_apply (w : FVec Ideal S128x128 .f32) (c j : Fin 128) : k0_pay2 w (ix2 c j) = w (ix2 j c) := by
  unfold k0_pay2
  exact transpose_apply _ _ _ _ _ (fun b => by fin_cases b <;> rfl)

/-- The transposed readout matrix at an index. -/
theorem pay3_apply (w : FVec Ideal S64x128 .f32) (c : Fin 128) (o : Fin 64) : k0_pay3 w (ix2 c o) = w (ix2 o c) := by
  unfold k0_pay3
  exact transpose_apply _ _ _ _ _ (fun b => by fin_cases b <;> rfl)

/-- The readout bias as a row. -/
theorem pay4_apply (b : FVec Ideal S64 .f32) (z : Fin 1) (o : Fin 64) : k0_pay4 b (ix2 z o) = b (ix1 o) := by
  unfold k0_pay4
  exact shapeCast_apply _ _ _ _ (by rw [Shape.rowMajor_val_one, Shape.rowMajor_val_two]; simp)

/-- The projected input of step `t` at row `r`, with the sum of the two biases added. -/
theorem pay5_apply (wih : FVec Ideal S128x128 .f32) (bih bhh : FVec Ideal S128 .f32) (u : FVec Ideal S40x128x128 .f32)
    (t : Fin 40) (r j : Fin 128) :
    k0_pay5 wih bih bhh u (ix3 t r j) = (∑ c : Fin 128, u (ix3 t r c) * wih (ix2 j c)) + (bih (ix1 j) + bhh (ix1 j)) := by
  unfold k0_pay5
  dsimp only
  rw [shapeCast_self]
  rw [shapeCast_apply (k := ix2 (flat t r) j) (hk := by
    rw [Shape.rowMajor_val_two, Shape.rowMajor_val_three]; simp; ring)]
  show FloatOps.matmul (DotDims.plain 5120 128 128) none _ _ _ (ix2 (flat t r) j) + broadcastTo _ _ _ _ = _
  rw [Ideal.matmul_plain_apply]
  rw [broadcastTo_apply (k := ix2 (0 : Fin 1) j) (hk := fun a => by fin_cases a <;> rfl)]
  rw [shapeCast_apply (k := ix1 j) (hk := by rw [Shape.rowMajor_val_one, Shape.rowMajor_val_two]; simp)]
  congr 1
  rw [show (constant S5120x128 .f32 0x00000000#32 : FVec Ideal S5120x128 .f32) (ix2 (flat t r) j) = (0 : EReal) from Ideal.ofBits_zero_f32, zero_add]
  refine Finset.sum_congr rfl fun c _ => ?_
  congr 1
  · exact shapeCast_apply _ _ _ _ (by rw [Shape.rowMajor_val_two, Shape.rowMajor_val_three]; simp; ring)
  · exact transpose_apply _ _ _ _ _ (fun b => by fin_cases b <;> rfl)

/-- One step of half the batch at an index. -/
theorem half_apply (W : FVec Ideal S128x128 .f32) (x : FVec Ideal S64x128 .f32) (p : FVec Ideal S1x64x128 .f32) (r : Fin 64) (j : Fin 128) :
    half W x p (ix2 r j) = Ideal.tanh (p (ix3 (0 : Fin 1) r j) + ∑ c : Fin 128, x (ix2 r c) * W (ix2 c j)) := by
  unfold half
  show Ideal.tanh (shapeCast _ _ _ _ + FloatOps.matmul (F := Ideal) (DotDims.plain 64 128 128) none _ _ _ (ix2 r j)) = _
  rw [Ideal.matmul_plain_apply]
  rw [shapeCast_apply (k := ix3 (0 : Fin 1) r j) (hk := by rw [Shape.rowMajor_val_two, Shape.rowMajor_val_three]; simp)]
  rw [show (constant S64x128 .f32 0x00000000#32 : FVec Ideal S64x128 .f32) (ix2 r j) = (0 : EReal) from Ideal.ofBits_zero_f32, zero_add]

/-- The readout of a history of states at an index. -/
theorem pay173_apply (w : FVec Ideal S128x64 .f32) (b : FVec Ideal S1x64 .f32) (h : FVec Ideal S40x128x128 .f32)
    (t : Fin 40) (r : Fin 128) (o : Fin 64) :
    k0_pay173 w b h (ix3 t r o) = (∑ c : Fin 128, h (ix3 t r c) * w (ix2 c o)) + b (ix2 (0 : Fin 1) o) := by
  unfold k0_pay173
  rw [shapeCast_apply (k := ix2 (flat t r) o) (hk := by
    rw [Shape.rowMajor_val_two, Shape.rowMajor_val_three]; simp; ring)]
  show FloatOps.matmul (DotDims.plain 5120 128 64) none _ _ _ (ix2 (flat t r) o) + broadcastTo _ _ _ _ = _
  rw [Ideal.matmul_plain_apply]
  rw [broadcastTo_apply (k := ix2 (0 : Fin 1) o) (hk := fun a => by fin_cases a <;> rfl)]
  congr 1
  rw [show (constant S5120x64 .f32 0x00000000#32 : FVec Ideal S5120x64 .f32) (ix2 (flat t r) o) = (0 : EReal) from Ideal.ofBits_zero_f32, zero_add]
  refine Finset.sum_congr rfl fun c _ => ?_
  congr 1
  exact shapeCast_apply _ _ _ _ (by rw [Shape.rowMajor_val_two, Shape.rowMajor_val_three]; simp; ring)

end Cert.Rnn
-- ==== Proof.Spec.lean ====
/- The mathematics of the problem, free of either program: a recurrent state over 200 steps, and its readout. -/
module

public import Idealize.ShloMosaic.PureOps.Ideal

@[expose] public section

noncomputable section

namespace Cert.Rnn

open Idealize.ShloMosaic

/-- The eight inputs, by coordinates: 200 steps of 128 input rows, the initial state, the two recurrent matrices with their biases,
    the readout matrix and its bias. -/
structure Inputs where
  u : Fin 200 → Fin 128 → Fin 128 → EReal
  x0 : Fin 128 → Fin 128 → EReal
  wih : Fin 128 → Fin 128 → EReal
  whh : Fin 128 → Fin 128 → EReal
  bih : Fin 128 → EReal
  bhh : Fin 128 → EReal
  wf : Fin 64 → Fin 128 → EReal
  bf : Fin 64 → EReal

/-- The part of step `k` that doesn't read the state: the input row through its matrix. -/
def drive (a : Inputs) (k : ℕ) (r j : Fin 128) : EReal := ∑ c, a.u ⟨min k 199, by omega⟩ r c * a.wih j c

/-- The state after `k` steps. -/
def state (a : Inputs) : ℕ → Fin 128 → Fin 128 → EReal
  | 0 => a.x0
  | k + 1 => fun r j => Ideal.tanh (((drive a k r j + a.bih j) + ∑ c, state a k r c * a.whh j c) + a.bhh j)

/-- The result of step `k`: the readout of the state after it. -/
def out (a : Inputs) (k : ℕ) (r : Fin 128) (o : Fin 64) : EReal := (∑ c, state a (k + 1) r c * a.wf o c) + a.bf o

/-- One step with the two biases added first: sums of extended reals may be regrouped. -/
theorem state_succ (a : Inputs) (k : ℕ) (r j : Fin 128) :
    state a (k + 1) r j = Ideal.tanh ((drive a k r j + (a.bih j + a.bhh j)) + ∑ c, state a k r c * a.whh j c) := by
  show Ideal.tanh _ = _
  congr 1
  ac_rfl

end Cert.Rnn
-- ==== Proof.Blocks.lean ====
/- One block of 40 steps against the mathematics: from the state after `k` steps and the block of inputs `k … k + 39`, the kernel's
   block leaves the state after `k + 40` steps and emits the results of the steps `k … k + 39`. -/
module

public import proofs.«01_k».proof.Proof.Cells
public import proofs.«01_k».proof.Proof.Spec

@[expose] public section

noncomputable section

namespace Cert.Rnn

open Cert.KernelIdeal Cert.KernelIdeal.Gen Idealize.ShloMosaic.ValueIdx
open Idealize.ShloMosaic

/-- A half of the batch, its rows starting at `h`: rolled `t ≤ 40` steps on from the state after `k` steps, it is the state after
    `k + t` steps, provided the projected inputs are those of the steps from `k` on. -/
theorem roll_apply (a : Inputs) (k h : ℕ) (hh : h + 64 ≤ 128) (W : FVec Ideal S128x128 .f32) (U : FVec Ideal S40x128x128 .f32)
    (x : FVec Ideal S64x128 .f32) (hW : ∀ c j : Fin 128, W (ix2 c j) = a.whh j c)
    (hU : ∀ (t : Fin 40) (r j : Fin 128), U (ix3 t r j) = drive a (k + t.val) r j + (a.bih j + a.bhh j))
    (hx : ∀ (r : Fin 64) (j : Fin 128), x (ix2 r j) = state a k ⟨h + r.val, by omega⟩ j) (t : ℕ) (ht : t ≤ 40) (r : Fin 64) (j : Fin 128) :
    roll W U h x t (ix2 r j) = state a (k + t) ⟨h + r.val, by omega⟩ j := by
  induction t generalizing r j with
  | zero => exact hx r j
  | succ t ih =>
    show half W (roll W U h x t) (row U h t) (ix2 r j) = state a (k + t + 1) _ j
    rw [half_apply, state_succ]
    have e : row U h t (ix3 (0 : Fin 1) r j) = drive a (k + t) ⟨h + r.val, by omega⟩ j + (a.bih j + a.bhh j) := by
      refine Eq.trans (congrArg U ?_) (hU ⟨t, by omega⟩ ⟨h + r.val, by omega⟩ j)
      have h0 : (⟨min t 39, by omega⟩ : Fin 40) = ⟨t, by omega⟩ := Fin.ext (by show min t 39 = t; omega)
      have h1 : (⟨min (h + r.val) 127, by omega⟩ : Fin 128) = ⟨h + r.val, by omega⟩ :=
        Fin.ext (by show min (h + r.val) 127 = h + r.val; omega)
      show ix3 (⟨min t 39, _⟩ : Fin 40) (⟨min (h + r.val) 127, _⟩ : Fin 128) j = _
      rw [h0, h1]
    rw [e]
    congr 2
    exact Finset.sum_congr rfl fun c _ => by rw [ih (by omega), hW]

/-- The two halves of a state, stacked again after `t ≤ 40` steps, are the state of the whole batch. -/
theorem stack_apply (a : Inputs) (k : ℕ) (W : FVec Ideal S128x128 .f32) (U : FVec Ideal S40x128x128 .f32)
    (x : FVec Ideal S128x128 .f32) (hW : ∀ c j : Fin 128, W (ix2 c j) = a.whh j c)
    (hU : ∀ (t : Fin 40) (r j : Fin 128), U (ix3 t r j) = drive a (k + t.val) r j + (a.bih j + a.bhh j))
    (hx : ∀ r j : Fin 128, x (ix2 r j) = state a k r j) (t : ℕ) (ht : t ≤ 40) (r j : Fin 128) :
    stack (roll W U 0 (top x) t) (roll W U 64 (bot x) t) (ix2 r j) = state a (k + t) r j := by
  unfold stack
  by_cases hr : r.val < 64
  · rw [dif_pos (show ((ix2 r j : S128x128.Idx) 0).val < 64 from hr)]
    refine (roll_apply a k 0 (by omega) W U (top x) hW hU (fun r' j' => ?_) t ht ⟨r.val, hr⟩ j).trans ?_
    · refine (hx _ _).trans ?_
      congr 1; exact Fin.ext (Nat.zero_add _).symm
    · congr 1; exact Fin.ext (Nat.zero_add _)
  · rw [dif_neg (show ¬((ix2 r j : S128x128.Idx) 0).val < 64 from hr)]
    refine (roll_apply a k 64 (by omega) W U (bot x) hW hU (fun r' j' => hx _ _) t ht ⟨r.val - 64, by omega⟩ j).trans ?_
    congr 1; exact Fin.ext (by show 64 + (r.val - 64) = r.val; omega)

/-- What a block's operands hold at point `k / 40`: the inputs of the steps from `k` on, and the weights whole. -/
structure Holds (a : Inputs) (k : ℕ) (u : FVec Ideal S40x128x128 .f32) (wih whh : FVec Ideal S128x128 .f32) (bih bhh : FVec Ideal S128 .f32)
    (wf : FVec Ideal S64x128 .f32) (bf : FVec Ideal S64 .f32) : Prop where
  u : ∀ (t : Fin 40) (r j : Fin 128), u (ix3 t r j) = a.u ⟨min (k + t.val) 199, by omega⟩ r j
  wih : ∀ r j : Fin 128, wih (ix2 r j) = a.wih r j
  whh : ∀ r j : Fin 128, whh (ix2 r j) = a.whh r j
  bih : ∀ j : Fin 128, bih (ix1 j) = a.bih j
  bhh : ∀ j : Fin 128, bhh (ix1 j) = a.bhh j
  wf : ∀ (o : Fin 64) (j : Fin 128), wf (ix2 o j) = a.wf o j
  bf : ∀ o : Fin 64, bf (ix1 o) = a.bf o

section
variable {a : Inputs} {k : ℕ} {u : FVec Ideal S40x128x128 .f32} {wih whh : FVec Ideal S128x128 .f32} {bih bhh : FVec Ideal S128 .f32}
  {wf : FVec Ideal S64x128 .f32} {bf : FVec Ideal S64 .f32} (H : Holds a k u wih whh bih bhh wf bf)
include H

/-- The projected inputs of the block are those of the steps from `k` on. -/
theorem Holds.projected (t : Fin 40) (r j : Fin 128) :
    k0_pay5 (F := Ideal) wih bih bhh u (ix3 t r j) = Rnn.drive a (k + t.val) r j + (a.bih j + a.bhh j) := by
  rw [pay5_apply, H.bih, H.bhh]
  congr 1
  exact Finset.sum_congr rfl fun c _ => by rw [H.u, H.wih]

/-- The block leaves the state after `k + 40` steps. -/
theorem leave_apply (x : FVec Ideal S128x128 .f32) (hx : ∀ r j : Fin 128, x (ix2 r j) = state a k r j) (r j : Fin 128) :
    leave u wih whh bih bhh x (ix2 r j) = state a (k + 40) r j :=
  stack_apply a k _ _ x (fun c j => (pay2_apply whh c j).trans (H.whh j c)) H.projected hx 40 le_rfl r j

/-- The block emits the results of the steps from `k` on. -/
theorem emit_apply (x : FVec Ideal S128x128 .f32) (hx : ∀ r j : Fin 128, x (ix2 r j) = state a k r j) (t : Fin 40) (r : Fin 128) (o : Fin 64) :
    emit u wih whh bih bhh wf bf x (ix3 t r o) = out a (k + t.val) r o := by
  unfold emit out
  rw [pay173_apply, pay4_apply, H.bf]
  congr 1
  refine Finset.sum_congr rfl fun c _ => ?_
  rw [pay3_apply, H.wf]
  congr 1
  exact stack_apply a k _ _ x (fun c j => (pay2_apply whh c j).trans (H.whh j c)) H.projected hx (t.val + 1) (by omega) r c

end

end Cert.Rnn
-- ==== Proof.Points.lean ====
/- What the kernel's result array holds: by induction over the five grid points, the carried scratch holds the state after each
   point's 40 steps, so the array is the mathematics' results. -/
module

public import proofs.«01_k».proof.Proof.Blocks
import Idealize.ShloMosaic.Lib.Pipeline.ValueKit

@[expose] public section

noncomputable section

namespace Cert.Rnn

open Cert.KernelIdeal Cert.KernelIdeal.Gen Cert.KernelIdeal.Value Idealize.ShloMosaic.ValueIdx
open Idealize.ShloMosaic hiding ix1 ix2 ix3 ix4
open Idealize.ShloMosaic.TcCoe Idealize.SL.Sem

variable (m : (ℓ : Loc nD τ sig) → Buf (Elt Ideal) ℓ)

/-- The kernel's eight arguments as the mathematics' inputs. -/
def inputs (c : Dev nD) : Inputs where
  u t r j := (m ((c : Thread nD τ).loc main_arg0) : FVec Ideal S200x128x128 .f32) (ix3 t r j)
  x0 r j := (m ((c : Thread nD τ).loc main_arg1) : FVec Ideal S128x128 .f32) (ix2 r j)
  wih r j := (m ((c : Thread nD τ).loc main_arg2) : FVec Ideal S128x128 .f32) (ix2 r j)
  whh r j := (m ((c : Thread nD τ).loc main_arg3) : FVec Ideal S128x128 .f32) (ix2 r j)
  bih j := (m ((c : Thread nD τ).loc main_arg4) : FVec Ideal S128 .f32) (ix1 j)
  bhh j := (m ((c : Thread nD τ).loc main_arg5) : FVec Ideal S128 .f32) (ix1 j)
  wf o j := (m ((c : Thread nD τ).loc main_arg6) : FVec Ideal S64x128 .f32) (ix2 o j)
  bf o := (m ((c : Thread nD τ).loc main_arg7) : FVec Ideal S64 .f32) (ix1 o)

/-- The input windows' block indices at every point (decided): the first window moves along the steps, the others stay. -/
theorem blocks_at : ∀ t : Fin cfg0.N, win0_0.index t = ![t.val, 0, 0] ∧ win0_1.index t = ![0, 0] ∧ win0_2.index t = ![0, 0]
    ∧ win0_3.index t = ![0, 0] ∧ win0_4.index t = ![0] ∧ win0_5.index t = ![0] ∧ win0_6.index t = ![0, 0] ∧ win0_7.index t = ![0] :=
  (by decide +kernel : ∀ t : Fin grid0.N, _)

/-- The blocks a point reads: the inputs of its 40 steps, and the weights whole. -/
theorem holds (c : Dev nD) (t : Fin cfg0.N) :
    Holds (inputs m c) (40 * t.val) (iblk m c 0 t) (iblk m c 2 t) (iblk m c 3 t) (iblk m c 4 t) (iblk m c 5 t) (iblk m c 6 t) (iblk m c 7 t) := by
  have hN : t.val < 5 := lt_of_lt_of_eq t.isLt N_0
  exact {
    u := fun s r j => by
      unfold inputs; dsimp only; blk_ext [iblk, V, blocks_at t]
      show t.val * 40 + s.val = min (40 * t.val + s.val) 199
      omega
    wih := fun r j => by unfold inputs; dsimp only; blk_ext [iblk, V, blocks_at t]
    whh := fun r j => by unfold inputs; dsimp only; blk_ext [iblk, V, blocks_at t]
    bih := fun j => by unfold inputs; dsimp only; blk_ext [iblk, V, blocks_at t]
    bhh := fun j => by unfold inputs; dsimp only; blk_ext [iblk, V, blocks_at t]
    wf := fun o j => by unfold inputs; dsimp only; blk_ext [iblk, V, blocks_at t]
    bf := fun o => by unfold inputs; dsimp only; blk_ext [iblk, V, blocks_at t] }

/-- The initial state's block is the initial state. -/
theorem start (c : Dev nD) (t : Fin cfg0.N) (r j : Fin 128) : (iblk m c 1 t : FVec Ideal S128x128 .f32) (ix2 r j) = (inputs m c).x0 r j := by
  unfold inputs; dsimp only; blk_ext [iblk, V, blocks_at t]

/-- After point `n` the carried scratch holds the state after `40 (n + 1)` steps, and the output block the results of the point's
    40 steps. -/
theorem after_point (c : Dev nD) : ∀ (n : ℕ) (hn : n < cfg0.N),
    (∀ r j : Fin 128, ((outsAt0 m c n hn).2 : FVec Ideal S128x128 .f32) (ix2 r j) = state (inputs m c) (40 * n + 40) r j)
    ∧ ∀ (t : Fin 40) (r : Fin 128) (o : Fin 64),
        ((outsAt0 m c n hn).1 : FVec Ideal S40x128x64 .f32) (ix3 t r o) = out (inputs m c) (40 * n + t.val) r o
  | 0, hn => by
    rw [outsAt0_A m c ⟨0, hn⟩ rfl, sout_A, out_A]
    exact ⟨leave_apply (holds m c ⟨0, hn⟩) _ (start m c ⟨0, hn⟩), emit_apply (holds m c ⟨0, hn⟩) _ (start m c ⟨0, hn⟩)⟩
  | n + 1, hn => by
    have hN : n + 1 < 5 := lt_of_lt_of_eq hn N_0
    have ih := (after_point c n (by omega)).1
    rw [outsAt0_B m c ⟨n + 1, hn⟩ (by show ¬(n + 1) % 5 = 0; omega), sout_B, out_B]
    exact ⟨leave_apply (holds m c ⟨n + 1, hn⟩) _ ih, emit_apply (holds m c ⟨n + 1, hn⟩) _ ih⟩

/-- **The kernel's result array, index by index: the result of step `t` at row `r` and output `o`.** -/
theorem array_eq (c : Dev nD) (t : Fin 200) (r : Fin 128) (o : Fin 64) :
    (G8 m c : FVec Ideal S200x128x64 .f32) (ix3 t r o) = out (inputs m c) t.val r o := by
  have hp : pt8Of (ix3 t r o) = t.val / 40 := by
    show 1 * (t.val / 40 - 0) + 1 * (r.val / 128 - 0) + 1 * (o.val / 64 - 0) = _
    omega
  have hN : pt8Of (ix3 t r o) < cfg0.N := lt_of_lt_of_eq (by rw [hp]; omega) (N_0 : cfg0.N = 5).symm
  have hl : loc8Of (ix3 t r o) = ix3 (⟨t.val % 40, by omega⟩ : Fin 40) r o := by
    funext a
    apply Fin.ext
    match a with
    | ⟨0, _⟩ => rfl
    | ⟨1, _⟩ => exact Nat.mod_eq_of_lt r.isLt
    | ⟨2, _⟩ => exact Nat.mod_eq_of_lt o.isLt
  unfold G8
  rw [dif_pos hN, ← outsAt0_sweep m c _ hN, hl, (after_point m c _ hN).2]
  congr 1
  show 40 * pt8Of (ix3 t r o) + t.val % 40 = t.val
  rw [hp]; omega

end Cert.Rnn
-- ==== Proof.Reference.lean ====
/- What the reference's loop computes: by induction over its 200 trips, the carried state is the mathematics' state, and the rows of the
   result array written so far are the mathematics' results. -/
module

public import proofs.«01_k».proof.Proof.Gen.ReferenceIdeal.Run
public import proofs.«01_k».proof.Proof.Spec
public import Idealize.ShloMosaic.Lib.ValueIdxCore
import Idealize.ShloMosaic.Lib.DynamicIndex
import Idealize.ShloMosaic.Lib.KernelVsHost
import Idealize.ShloMosaic.Lib.MatmulPlain

@[expose] public section

noncomputable section

namespace Cert.Rnn.Ref

open Cert.ReferenceIdeal Cert.ReferenceIdeal.Gen Cert.ReferenceIdeal.Value Idealize.ShloMosaic.ValueIdx
open Idealize.ShloMosaic Idealize.ShloMosaic.TcCoe Idealize.ShloMosaic.StableHlo Idealize.SL.Sem

/-! ## The trip's operations at an index -/

/-- A host matrix product at an index. -/
theorem dot_apply {M K N : ℕ} (x : FVec Ideal ⟨2, ![M, K]⟩ .f32) (w : FVec Ideal ⟨2, ![K, N]⟩ .f32) (r : Fin M) (c : Fin N) :
    Host.dotGeneral (DotDims.plain M K N) none x w (ix2 r c) = ∑ k : Fin K, x (ix2 r k) * w (ix2 k c) := by
  rw [← matmul_zero_eq_dotGeneral]
  show FloatOps.matmul (DotDims.plain M K N) none x w _ (ix2 r c) = _
  rw [Ideal.matmul_plain_apply]
  rw [show (constant ⟨2, ![M, N]⟩ .f32 0x00000000#32 : FVec Ideal ⟨2, ![M, N]⟩ .f32) (ix2 r c) = (0 : EReal) from Ideal.ofBits_zero_f32,
    zero_add]

/-- A bias laid along every row, at an index. -/
theorem bias128_apply (b : FVec Ideal S128 .f32) (r j : Fin 128) :
    broadcastInDim S128x128 ![0, 1] bcast_S1x128_S128x128_0_1 (broadcastInDim S1x128 ![1] bcast_S128_S1x128_1 b) (ix2 r j) = b (ix1 j) := by
  refine (broadcastInDim_apply _ _ _ _ (ix2 (0 : Fin 1) j) fun a => by fin_cases a <;> rfl).trans ?_
  exact broadcastInDim_apply _ _ _ _ _ fun a => by fin_cases a; rfl

/-- The readout bias laid along every row, at an index. -/
theorem bias64_apply (b : FVec Ideal S64 .f32) (r : Fin 128) (o : Fin 64) :
    broadcastInDim S128x64 ![0, 1] bcast_S1x64_S128x64_0_1 (broadcastInDim S1x64 ![1] bcast_S64_S1x64_1 b) (ix2 r o) = b (ix1 o) := by
  refine (broadcastInDim_apply _ _ _ _ (ix2 (0 : Fin 1) o) fun a => by fin_cases a <;> rfl).trans ?_
  exact broadcastInDim_apply _ _ _ _ _ fun a => by fin_cases a; rfl

/-- The inputs of step `k`, cut out of the array of inputs. -/
theorem slice_apply (U : FVec Ideal S200x128x128 .f32) (start : Fin 3 → Int) (k : ℕ) (hk : k < 200) (h0 : start 0 = (k : Int))
    (h1 : start 1 = 0) (h2 : start 2 = 0) (r j : Fin 128) :
    shapeCast S128x128 (Host.dynamicSlice S1x128x128 U start sliceFits_S200x128x128_S1x128x128) shapeCasts_S1x128x128_S128x128 (ix2 r j)
      = U (ix3 ⟨k, hk⟩ r j) := by
  rw [shapeCast_apply (k := ix3 (0 : Fin 1) r j) (hk := by rw [Shape.rowMajor_val_two, Shape.rowMajor_val_three]; simp)]
  have hs : S200x128x128.Slices ![k, 0, 0] S1x128x128 := ⟨rfl, fun a => by
    match a with
    | ⟨0, _⟩ => show k + 1 ≤ 200; omega
    | ⟨1, _⟩ => show 0 + 128 ≤ 128; omega
    | ⟨2, _⟩ => show 0 + 128 ≤ 128; omega⟩
  rw [Host.dynamicSlice_eq_extractStridedSlice S1x128x128 U start ![k, 0, 0] sliceFits_S200x128x128_S1x128x128 hs (fun a => by
    match a with
    | ⟨0, _⟩ => exact h0
    | ⟨1, _⟩ => exact h1
    | ⟨2, _⟩ => exact h2)]
  refine extractStridedSlice_apply _ _ _ _ _ fun a => ?_
  match a with
  | ⟨0, _⟩ => rfl
  | ⟨1, _⟩ => exact (Nat.zero_add _).symm
  | ⟨2, _⟩ => exact (Nat.zero_add _).symm

/-- The results of step `k` written into the array of results: row `k` is the new one, the others stay. -/
theorem update_apply (Y : FVec Ideal S200x128x64 .f32) (v : FVec Ideal S128x64 .f32) (start : Fin 3 → Int) (k : ℕ) (hk : k < 200)
    (h0 : start 0 = (k : Int)) (h1 : start 1 = 0) (h2 : start 2 = 0) (t : Fin 200) (r : Fin 128) (o : Fin 64) :
    Host.dynamicUpdateSlice Y (broadcastInDim S1x128x64 ![1, 2] bcast_S128x64_S1x128x64_1_2 v) start updateFits_S200x128x64_S1x128x64 (ix3 t r o)
      = if t.val = k then v (ix2 r o) else Y (ix3 t r o) := by
  have hs : S200x128x64.Slices ![k, 0, 0] S1x128x64 := ⟨rfl, fun a => by
    match a with
    | ⟨0, _⟩ => show k + 1 ≤ 200; omega
    | ⟨1, _⟩ => show 0 + 128 ≤ 128; omega
    | ⟨2, _⟩ => show 0 + 64 ≤ 64; omega⟩
  rw [Host.dynamicUpdateSlice_eq_updateSlice Y _ start updateFits_S200x128x64_S1x128x64 ![k, 0, 0] (fun a => by
    match a with
    | ⟨0, _⟩ => show (min (max (start 0) 0) ((200 - 1 : ℕ) : Int)).toNat = k; rw [h0]; omega
    | ⟨1, _⟩ => show (min (max (start 1) 0) ((128 - 128 : ℕ) : Int)).toNat = 0; rw [h1]; rfl
    | ⟨2, _⟩ => show (min (max (start 2) 0) ((64 - 64 : ℕ) : Int)).toNat = 0; rw [h2]; rfl) hs]
  unfold updateSlice
  by_cases ht : t.val = k
  · rw [if_pos ht, dif_pos (fun a => by
      match a with
      | ⟨0, _⟩ => show k ≤ t.val ∧ t.val < k + 1; omega
      | ⟨1, _⟩ => exact ⟨Nat.zero_le _, by show r.val < 0 + 128; omega⟩
      | ⟨2, _⟩ => exact ⟨Nat.zero_le _, by show o.val < 0 + 64; omega⟩)]
    exact broadcastInDim_apply _ _ _ _ _ fun a => by fin_cases a <;> rfl
  · rw [if_neg ht, dif_neg (fun h => ht (by
      have h' : k ≤ t.val ∧ t.val < k + 1 := h 0
      omega))]

/-! ## The loop -/

/-- What the carried buffers hold before trip `k`. -/
structure Before (a : Inputs) (k : ℕ) (V : Valuation τ sig (Elt Ideal)) : Prop where
  u : ∀ (t : Fin 200) (r j : Fin 128), (V (Proc.devRef .tc main_v1_0) : FVec Ideal S200x128x128 .f32) (ix3 t r j) = a.u t r j
  wih : ∀ r j : Fin 128, (V (Proc.devRef .tc main_v1_1) : FVec Ideal S128x128 .f32) (ix2 r j) = a.wih r j
  bih : ∀ j : Fin 128, (V (Proc.devRef .tc main_v1_2) : FVec Ideal S128 .f32) (ix1 j) = a.bih j
  whh : ∀ r j : Fin 128, (V (Proc.devRef .tc main_v1_3) : FVec Ideal S128x128 .f32) (ix2 r j) = a.whh r j
  bhh : ∀ j : Fin 128, (V (Proc.devRef .tc main_v1_4) : FVec Ideal S128 .f32) (ix1 j) = a.bhh j
  wf : ∀ (o : Fin 64) (j : Fin 128), (V (Proc.devRef .tc main_v1_5) : FVec Ideal S64x128 .f32) (ix2 o j) = a.wf o j
  bf : ∀ o : Fin 64, (V (Proc.devRef .tc main_v1_6) : FVec Ideal S64 .f32) (ix1 o) = a.bf o
  counter : V (Proc.devRef .tc main_v1_7) = constantI S_ 32 (BitVec.ofNat 32 k)
  x : ∀ r j : Fin 128, (V (Proc.devRef .tc main_v1_8) : FVec Ideal S128x128 .f32) (ix2 r j) = state a k r j
  y : ∀ (t : Fin 200) (r : Fin 128) (o : Fin 64), t.val < k →
    (V (Proc.devRef .tc main_v1_9) : FVec Ideal S200x128x64 .f32) (ix3 t r o) = out a t.val r o

variable {a : Inputs} {k : ℕ} {V : Valuation τ sig (Elt Ideal)}

/-- The trip's start index along the steps is its number. -/
theorem Before.start (H : Before a k V) (hk : k < 200) :
    ((V (Proc.devRef .tc main_v1_7) : (⟨S_, .i32⟩ : BufTy).Contents (Elt Ideal)) (Shape.Idx.first h_S_)).toInt = (k : Int) := by
  rw [H.counter]
  exact toInt_ofNat_of_lt (by omega)

/-- The trip's new state is the mathematics' next state. -/
theorem Before.next (H : Before a k V) (hk : k < 200) (r j : Fin 128) :
    (res_main_while0b_v14 V : FVec Ideal S128x128 .f32) (ix2 r j) = state a (k + 1) r j := by
  unfold res_main_while0b_v14
  show Ideal.tanh (((Host.dotGeneral (F := Ideal) (DotDims.plain 128 128 128) none _ _ (ix2 r j) + _)
    + Host.dotGeneral (F := Ideal) (DotDims.plain 128 128 128) none _ _ (ix2 r j)) + _) = Ideal.tanh _
  rw [dot_apply, dot_apply]
  congr 1
  refine congrArg₂ (· + ·) (congrArg₂ (· + ·) (congrArg₂ (· + ·) (Finset.sum_congr rfl fun c _ => ?_) ?_)
    (Finset.sum_congr rfl fun c _ => ?_)) ?_
  · refine congrArg₂ (· * ·) ?_ ((transpose_apply _ _ _ _ (ix2 j c) fun b => by fin_cases b <;> rfl).trans (H.wih j c))
    refine (slice_apply _ _ k hk (H.start hk) rfl rfl r c).trans ((H.u _ r c).trans ?_)
    congr 1
    exact Fin.ext (by show k = min k 199; omega)
  · exact (bias128_apply _ r j).trans (H.bih j)
  · exact congrArg₂ (· * ·) (H.x r c) ((transpose_apply _ _ _ _ (ix2 j c) fun b => by fin_cases b <;> rfl).trans (H.whh j c))
  · exact (bias128_apply _ r j).trans (H.bhh j)

/-- One trip: what the carried buffers hold moves one step on. -/
theorem Before.step (H : Before a k V) (hk : k < 200) : Before a (k + 1) (STEP V) where
  u t r j := by rw [STEP_main_v1_0]; exact H.u t r j
  wih r j := by rw [STEP_main_v1_1]; exact H.wih r j
  bih j := by rw [STEP_main_v1_2]; exact H.bih j
  whh r j := by rw [STEP_main_v1_3]; exact H.whh r j
  bhh j := by rw [STEP_main_v1_4]; exact H.bhh j
  wf o j := by rw [STEP_main_v1_5]; exact H.wf o j
  bf o := by rw [STEP_main_v1_6]; exact H.bf o
  counter := by
    rw [STEP_main_v1_7]
    unfold step_main_v1_7
    rw [H.counter]
    funext i
    exact (BitVec.ofNat_add k 1).symm
  x r j := by
    rw [STEP_main_v1_8]
    exact H.next hk r j
  y t r o ht := by
    rw [STEP_main_v1_9]
    unfold step_main_v1_9
    refine (update_apply _ _ _ k hk (H.start hk) rfl rfl t r o).trans ?_
    by_cases e : t.val = k
    · rw [if_pos e, e]
      show Host.dotGeneral (F := Ideal) (DotDims.plain 128 128 64) none _ _ (ix2 r o) + _ = (_ : EReal)
      rw [dot_apply]
      refine congrArg₂ (· + ·) (Finset.sum_congr rfl fun c _ => ?_) ((bias64_apply _ r o).trans (H.bf o))
      exact congrArg₂ (· * ·) (H.next hk r c) ((transpose_apply _ _ _ _ (ix2 o c) fun b => by fin_cases b <;> rfl).trans (H.wf o c))
    · rw [if_neg e]
      exact H.y t r o (by omega)

/-- The trips, by induction on their number. -/
theorem Before.steps (H : Before a 0 V) : ∀ n : ℕ, n ≤ 200 → Before a n (STEP^[n] V)
  | 0, _ => H
  | n + 1, hn => by
    rw [Function.iterate_succ_apply']
    exact (Before.steps H n (by omega)).step (by omega)

variable (m : (ℓ : Loc nD τ sig) → Buf (Elt Ideal) ℓ)

/-- The reference's eight arguments as the mathematics' inputs. -/
def inputs (c : Dev nD) : Inputs where
  u t r j := (m ((c : Thread nD τ).loc main_arg0) : FVec Ideal S200x128x128 .f32) (ix3 t r j)
  x0 r j := (m ((c : Thread nD τ).loc main_arg1) : FVec Ideal S128x128 .f32) (ix2 r j)
  wih r j := (m ((c : Thread nD τ).loc main_arg2) : FVec Ideal S128x128 .f32) (ix2 r j)
  whh r j := (m ((c : Thread nD τ).loc main_arg3) : FVec Ideal S128x128 .f32) (ix2 r j)
  bih j := (m ((c : Thread nD τ).loc main_arg4) : FVec Ideal S128 .f32) (ix1 j)
  bhh j := (m ((c : Thread nD τ).loc main_arg5) : FVec Ideal S128 .f32) (ix1 j)
  wf o j := (m ((c : Thread nD τ).loc main_arg6) : FVec Ideal S64x128 .f32) (ix2 o j)
  bf o := (m ((c : Thread nD τ).loc main_arg7) : FVec Ideal S64 .f32) (ix1 o)

/-- At the loop's entry each carried buffer holds its argument, and the counter is zero. -/
theorem entry (c : Dev nD) : Before (inputs m c) 0 (entryContents preI m c) where
  u t r j := by simp only [entryContents, afterL_cons, afterL_nil]; after_reads_simp; rfl
  wih r j := by simp only [entryContents, afterL_cons, afterL_nil]; after_reads_simp; rfl
  bih j := by simp only [entryContents, afterL_cons, afterL_nil]; after_reads_simp; rfl
  whh r j := by simp only [entryContents, afterL_cons, afterL_nil]; after_reads_simp; rfl
  bhh j := by simp only [entryContents, afterL_cons, afterL_nil]; after_reads_simp; rfl
  wf o j := by simp only [entryContents, afterL_cons, afterL_nil]; after_reads_simp; rfl
  bf o := by simp only [entryContents, afterL_cons, afterL_nil]; after_reads_simp; rfl
  counter := ctr_entry m c
  x r j := by simp only [entryContents, afterL_cons, afterL_nil]; after_reads_simp; rfl
  y t r o ht := absurd ht (Nat.not_lt_zero _)

/-- **The reference's result array, index by index: the result of step `t` at row `r` and output `o`.** -/
theorem array_eq (c : Dev nD) (t : Fin 200) (r : Fin 128) (o : Fin 64) :
    ((STEP^[200] (entryContents preI m c)) (Proc.devRef .tc main_v1_9) : FVec Ideal S200x128x64 .f32) (ix3 t r o)
      = out (inputs m c) t.val r o :=
  (Before.steps (entry m c) 200 le_rfl).y t r o t.isLt

end Cert.Rnn.Ref
-- ==== Proof.Equation.lean ====
/- The equation: on memories that agree on the arguments, the reference's result array is the kernel's. -/
module

public import proofs.«01_k».proof.Proof.Points
public import proofs.«01_k».proof.Proof.Reference

@[expose] public section

noncomputable section

namespace Cert.Rnn

open Idealize.ShloMosaic Idealize.ShloMosaic.TcCoe Idealize.SL.Sem

/-- Both arrays hold the mathematics' results of the same inputs. -/
theorem arrays_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (h : Ref.inputs m' c = inputs m c) :
    (((Cert.ReferenceIdeal.Value.STEP^[200] (StableHlo.entryContents Cert.ReferenceIdeal.Value.preI m' c))
        (Proc.devRef .tc Cert.ReferenceIdeal.main_v1_9)) : FVec Ideal Cert.KernelIdeal.S200x128x64 .f32)
      = (Cert.KernelIdeal.Value.G8 m c : FVec Ideal Cert.KernelIdeal.S200x128x64 .f32) := by
  funext i
  rw [ValueIdx.eq_ix3 i]
  exact (Ref.array_eq m' c (i 0) (i 1) (i 2)).trans ((congrArg (fun a => out a _ _ _) h).trans (array_eq m c (i 0) (i 1) (i 2)).symm)

end Cert.Rnn
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import Idealize.ShloMosaic.Adequacy
public import Idealize.ShloMosaic.Init
public import Idealize.ShloMosaic.Lib.Quiescent
public import proofs.«01_k».proof.Proof.Equation

@[expose] public section

noncomputable section

namespace Cert.Proof

open Idealize.ShloMosaic Idealize.SL.Sem

/-- The reference terminates with its arguments unchanged and every counter zero. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On memories that agree on the arguments, over the extended reals, the kernel's result array is the reference's. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  refine (h c).1.trans (Cert.Rnn.arrays_eq m m' c ?_)
  unfold Cert.Rnn.Ref.inputs Cert.Rnn.inputs
  simp only [hagree c]

/-- The five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_ReferenceIdeal, (trivial : preserves_Kernel_KernelIdeal), algebraic_KernelIdeal_ReferenceIdeal⟩

end Cert.Proof

end
